-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positions_in_range : Cert.Pre_positions_in_range.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ preserves_Kernel_KernelIdeal
    ∧ algebraic_KernelIdeal_ReferenceIdeal (hKernelIdeal := hKernelIdeal) (hReferenceIdeal := hReferenceIdeal) (hPre_positions_in_range := hPre_positions_in_range)
-- ==== Pre_positions_in_range.lean ====
abbrev S_ : Shape := ⟨0, ![]⟩
abbrev S4x8192 : Shape := ⟨2, ![4, 8192]⟩
abbrev S32768x64x2 : Shape := ⟨3, ![32768, 64, 2]⟩

class Facts : Prop where
  bcast_S_S4x8192 : S_.BroadcastsInDim S4x8192 (![] : Fin 0 → Fin S4x8192.rank)

variable [Facts]

def fn {F : FTy → Type} [FloatOps F] (main_arg0 : IVec S_ 32) (main_arg1 : IVec S4x8192 32) (main_arg2 : FVec F S32768x64x2 .f32) : IVec S4x8192 1 :=
  let main_c : IVec S_ 32 := constantI S_ 32 0#32
  let main_v0 : IVec S4x8192 32 := broadcastInDim S4x8192 ![] bcast_S_S4x8192 main_c
  let main_v1 : IVec S4x8192 1 := cmpi .sge main_arg1 main_v0
  let main_c_0 : IVec S_ 32 := constantI S_ 32 32768#32
  let main_v2 : IVec S4x8192 32 := broadcastInDim S4x8192 ![] bcast_S_S4x8192 main_c_0
  let main_v3 : IVec S4x8192 1 := cmpi .slt main_arg1 main_v2
  let main_v4 : IVec S4x8192 1 := andi main_v1 main_v3
  main_v4
-- ==== Kernel.lean ====
abbrev S_ : Shape := ⟨0, ![]⟩
abbrev S4x8192 : Shape := ⟨2, ![4, 8192]⟩
abbrev S32768x64x2 : Shape := ⟨3, ![32768, 64, 2]⟩
abbrev S32768x128 : Shape := ⟨2, ![32768, 128]⟩
abbrev S8x128 : Shape := ⟨2, ![8, 128]⟩
abbrev S2x128x128 : Shape := ⟨3, ![2, 128, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S4x8192x64x2 : Shape := ⟨4, ![4, 8192, 64, 2]⟩

abbrev nBuf : Table → Nat
  | .hbm => 6
  | .local .scVector .vmem => 2
  | _ => 0

abbrev bufTy : (tb : Table) → Fin (nBuf tb) → BufTy
  | .hbm, ⟨0, _⟩ => ⟨S_, .i32⟩
  | .hbm, ⟨1, _⟩ => ⟨S4x8192, .i32⟩
  | .hbm, ⟨2, _⟩ => ⟨S32768x64x2, .f32⟩
  | .hbm, ⟨3, _⟩ => ⟨S32768x128, .f32⟩
  | .hbm, ⟨4, _⟩ => ⟨S32768x128, .f32⟩
  | .hbm, ⟨5, _⟩ => ⟨S4x8192x64x2, .f32⟩
  | .local .scVector .vmem, ⟨0, _⟩ => ⟨S8x128, .i32⟩
  | .local .scVector .vmem, ⟨1, _⟩ => ⟨S2x128x128, .f32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1024_i32_10 : BitVec 32 := 1024#32
  let v30 : BitVec 32 := Scalar.muli v29 c1024_i32_10
  let v31 : BitVec 32 := Scalar.addi v30 c0_i32_11
  ![v19.toNat, v31.toNat]
def k0_off2 (i : grid0.Coords) (c0_i32_76 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v182 : BitVec 32 := Scalar.addi v2 c0_i32_76
  let c0_i32_80 : BitVec 32 := 0#32
  ![v182.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S_ : Shape := ⟨0, ![]⟩
abbrev S4x8192 : Shape := ⟨2, ![4, 8192]⟩
abbrev S32768x64x2 : Shape := ⟨3, ![32768, 64, 2]⟩
abbrev S4x8192x1 : Shape := ⟨3, ![4, 8192, 1]⟩
abbrev S1 : Shape := ⟨1, ![1]⟩
abbrev S1x1x1 : Shape := ⟨3, ![1, 1, 1]⟩
abbrev S4x8192x64x2 : Shape := ⟨4, ![4, 8192, 64, 2]⟩

abbrev nBuf : Space → Nat
  | .hbm => 26
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x8192, .i32⟩
  | .hbm, ⟨2, _⟩ => ⟨S32768x64x2, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S1, .i32⟩
  | .hbm, ⟨12, _⟩ => ⟨S_, .i32⟩
  | .hbm, ⟨13, _⟩ => ⟨S4x8192x1, .i32⟩
  | .hbm, ⟨14, _⟩ => ⟨S4x8192x1, .i1⟩
  | .hbm, ⟨15, _⟩ => ⟨S1x1x1, .i32⟩
  | .hbm, ⟨16, _⟩ => ⟨S4x8192x1, .i32⟩
  | .hbm, ⟨17, _⟩ => ⟨S4x8192x1, .i1⟩
  | .hbm, ⟨18, _⟩ => ⟨S4x8192x1, .i1⟩
  | .hbm, ⟨19, _⟩ => ⟨S_, .i1⟩
  | .hbm, ⟨20, _⟩ => ⟨S4x8192, .i1⟩
  | .hbm, ⟨21, _⟩ => ⟨S4x8192x64x2, .f32⟩
  | .hbm, ⟨22, _⟩ => ⟨S4x8192x64x2, .i1⟩
  | .hbm, ⟨23, _⟩ => ⟨S_, .f32⟩
  | .hbm, ⟨24, _⟩ => ⟨S4x8192x64x2, .f32⟩
  | .hbm, ⟨25, _⟩ => ⟨S4x8192x64x2, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]
-- ==== Proof.Setup.lean ====
/- The gather kernel's launch as the launch theorem sees it: the resource algebra, the buffers, the pieces of them
   one worker (a vector subcore of a SparseCore) is dealt, and the array the workers leave together. -/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Adequacy
public import Idealize.ShloMosaic.Init

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call has two SparseCores of sixteen vector subcores each. -/
theorem nCore_zero : (K (F := F)).nCore 0 = 2 := rfl
theorem nSub_zero : (K (F := F)).nSub 0 = 16 := rfl

/-- The static facts of the handshake's cells and of the buffers' scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers of @main -/

abbrev sLoc (d : Dev nD) : Loc nD τ sig := (SparseCore.T d).loc main_arg0
abbrev pLoc (d : Dev nD) : Loc nD τ sig := (SparseCore.T d).loc main_arg1
abbrev cLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1
abbrev yLoc (d : Dev nD) : Loc nD τ sig := (SparseCore.T d).loc main_v2

/-! ## What the workers compute together -/

/-- Place `r` of `position_ids` in row-major order. -/
def posAt (r : ℕ) : S4x8192.Idx :=
  fun | 0 => ⟨r / 8192 % 4, Nat.mod_lt _ (by decide)⟩ | 1 => ⟨r % 8192, Nat.mod_lt _ (by decide)⟩

/-- The row of the table that row `r` of the gathered array names: the word at place `r` of `position_ids`. -/
def rowOf (pos : S4x8192.Idx → BitVec 32) (r : ℕ) : ℕ := (pos (posAt r)).toNat % 32768

/-- The gathered array: row `r` is the table's row `rowOf pos r`. -/
def gathered {α : Type} (tbl : S32768x128.Idx → α) (pos : S4x8192.Idx → BitVec 32) : S32768x128.Idx → α :=
  fun y => tbl (fun | 0 => ⟨rowOf pos (y 0).val, Nat.mod_lt _ (by decide)⟩ | 1 => y 1)

end Cert.Proof.Gather

end
-- ==== Proof.Windows.lean ====
/- The windows that a worker's copies name (its positions, the rows of its index scratch, its row buffers, its blocks of
   the gathered array), and what is read through them: a worker's gather at a step delivers exactly the 128 rows of the
   gathered array that the step writes out. -/
module

public import proofs.«01_k».proof.Proof.Setup

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S32768x128 EltTy.f32)
local notation "pV" => (Memref.whole Cert.KernelIdeal.main_arg1_scv : Memref Cert.KernelIdeal.sig Kind.scVector Space.hbm Cert.KernelIdeal.S4x8192 EltTy.i32)
local notation "oV" => (Memref.whole Cert.KernelIdeal.main_v1_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S8x128 EltTy.i32)
local notation "bV" => (Memref.whole Cert.KernelIdeal.cc0_scratch1 : Memref Cert.KernelIdeal.sig Kind.scVector Space.vmem Cert.KernelIdeal.S2x128x128 EltTy.f32)

/-! ## A worker's windows, as its body slices them -/

/-- The 128 positions of `position_ids` at offset `c` of worker `L`. -/
abbrev pRow (L : grid0.Coords) (c : BitVec 32) (h : ∀ a, k0_off1 L c a + S1x128.size a ≤ S4x8192.size a) : Memref sig .scVector .hbm S128 .i32 :=
  ((pV).slice (Rect.unit (s := S4x8192) (k0_off1 L c) S1x128.size h) (fun _ => rfl)).squeeze S128 squeezes_S1x128_S128
/-- Row `o` of the index scratch. -/
abbrev lRow (o : ℕ) (h : ∀ a, (![o, 0] : Fin 2 → ℕ) a + S1x128.size a ≤ S8x128.size a) : Memref sig .scVector .vmem S128 .i32 :=
  ((lV).slice (Rect.unit (s := S8x128) ![o, 0] S1x128.size h) (fun _ => rfl)).squeeze S128 squeezes_S1x128_S128
/-- Row buffer `o`. -/
abbrev slot (o : ℕ) (h : ∀ a, (![o, 0, 0] : Fin 3 → ℕ) a + S1x128x128.size a ≤ S2x128x128.size a) : Memref sig .scVector .vmem S128x128 .f32 :=
  ((bV).slice (Rect.unit (s := S2x128x128) ![o, 0, 0] S1x128x128.size h) (fun _ => rfl)).squeeze S128x128 squeezes_S1x128x128_S128x128
/-- The whole table, as a gather reads it. -/
abbrev xAll : Memref sig .scVector .hbm S32768x128 .f32 :=
  (xV).slice (Rect.unit (s := S32768x128) ![0, 0] S32768x128.size inb_S32768x128_S32768x128_0_0) (fun _ => rfl)
/-- The 128 rows of the gathered array at offset `c` of worker `L`. -/
abbrev oBlk (L : grid0.Coords) (c : BitVec 32) (h : ∀ a, k0_off2 L c a + S128x128.size a ≤ S32768x128.size a) : Memref sig .scVector .hbm S128x128 .f32 :=
  (oV).slice (Rect.unit (s := S32768x128) (k0_off2 L c) S128x128.size h) (fun _ => rfl)

/-- The first of the 128 positions that worker `L` fetches at step `r` lies in row `wid / 8` at column
    `1024 * (wid % 8) + 128 * r`, where `wid = 2 * subcore + core`. -/
theorem k0_off1_eq : ∀ (L : grid0.Coords) (r : Fin 8),
    k0_off1 L (BitVec.ofNat 32 (128 * r.val)) 0 = (2 * (L 1).val + (L 0).val) / 8
      ∧ k0_off1 L (BitVec.ofNat 32 (128 * r.val)) 1 = (2 * (L 1).val + (L 0).val) % 8 * 1024 + 128 * r.val := by
  decide +kernel

/-- Squeezing a one-row window keeps columns. -/
theorem squeeze_row : ∀ x : S128.Idx, (Shape.reshapeEquiv (s := S1x128) (s' := S128) squeezes_S1x128_S128.numel_eq x 0).val = 0
    ∧ (Shape.reshapeEquiv (s := S1x128) (s' := S128) squeezes_S1x128_S128.numel_eq x 1).val = (x 0).val := by
  decide +kernel

/-- A list of 128 words in row-major order is in its own order. -/
theorem rowMajor_S128 : ∀ k : Fin S128.numel, (S128.rowMajor.symm k 0).val = k.val := by
  decide +kernel

/-! ## What the windows hold -/

/-- Word `x` of a worker's 128 positions at step `r` is the word of `position_ids` that numbers the gathered array's
    row `2048 * subcore + 1024 * core + 128 * r + x`. -/
theorem pRow_read (L : grid0.Coords) (r : Fin 8) (h) (pos : S4x8192.Idx → BitVec 32) (x : S128.Idx) :
    (pRow L (BitVec.ofNat 32 (128 * r.val)) h).view.read (Elt F) pos x
      = pos (posAt (2048 * (L 1).val + 1024 * (L 0).val + 128 * r.val + (x 0).val)) := by
  have hx : (x 0).val < 128 := (x 0).isLt
  have h0 : (L 0).val < 2 := (L 0).isLt
  have h1 : (L 1).val < 16 := (L 1).isLt
  have hr := r.isLt
  refine ((View.read_apply _ _).trans (cast_eq _ _)).trans (congrArg pos (funext fun a => Fin.ext ?_))
  match a with
  | 0 =>
    show k0_off1 L (BitVec.ofNat 32 (128 * r.val)) 0 + 1 * (Shape.reshapeEquiv squeezes_S1x128_S128.numel_eq x 0).val = _ / 8192 % 4
    rw [(squeeze_row x).1, (k0_off1_eq L r).1]; omega
  | 1 =>
    show k0_off1 L (BitVec.ofNat 32 (128 * r.val)) 1 + 1 * (Shape.reshapeEquiv squeezes_S1x128_S128.numel_eq x 1).val = _ % 8192
    rw [(squeeze_row x).2, (k0_off1_eq L r).2]; omega

/-- A row of the index scratch just written whole reads as what was written. -/
theorem lRow_read (o : ℕ) (h') (g : BufTy.Contents (Elt F) (lRow o h').view.ty) (w : S128.Idx → Elt F .i32) :
    (lRow o h').view.read (Elt F) ((lRow o h').view.writes (Elt F) g [⟨Rect.whole S128, w⟩]) = w :=
  View.read_writes_whole _ _ _

/-- A row buffer whose last write was whole reads as that write. -/
theorem slot_read (o : ℕ) (h') (g : BufTy.Contents (Elt F) (slot o h').view.ty) (w : S128x128.Idx → Elt F .f32)
    (rest : List (View.Piece (Elt F) S128x128 .f32)) :
    (slot o h').view.read (Elt F) ((slot o h').view.writes (Elt F) g (⟨Rect.whole S128x128, w⟩ :: rest)) = w := by
  funext y
  have e := View.read_writes_cons_emb (slot o h').view g (Rect.whole S128x128) w rest y
  rwa [Rect.emb_whole_apply] at e

/-- What the gather of step `r` delivers is the gathered array's 128 rows that the step writes out. -/
theorem payload_eq (L : grid0.Coords) (r : Fin 8) (h h2) (hg : S32768x128.Gathers 0 S128x128) (hn : S128.numel = S128x128.size hg.axis')
    (tbl : S32768x128.Idx → Elt F .f32) (pos : S4x8192.Idx → BitVec 32) (idx : S128.Idx → Elt F .i32)
    (hidx : idx = (pRow L (BitVec.ofNat 32 (128 * r.val)) h).view.read (Elt F) pos)
    (hin : ∀ x, (idx x).toNat < S32768x128.size hg.axis) (y : S128x128.Idx) :
    SparseCore.gatherPayload hg ((xAll).view.read (Elt F) tbl) (SparseCore.rows idx hn hin) y
      = gathered tbl pos ((oBlk L (BitVec.ofNat 32 (128 * r.val)) h2).view.emb y) := by
  subst hidx
  refine ((View.read_apply _ _).trans (cast_eq _ _)).trans (congrArg tbl (funext fun a => Fin.ext ?_))
  match a with
  | 0 =>
    have hk : (S128.rowMajor.symm (Fin.cast hn.symm (y hg.axis')) 0).val = (y 0).val := rowMajor_S128 _
    show 0 + 1 * ((pRow L (BitVec.ofNat 32 (128 * r.val)) h).view.read (Elt F) pos (S128.rowMajor.symm _)).toNat
      = rowOf pos (k0_off2 L (BitVec.ofNat 32 (128 * r.val)) 0 + 1 * (y 0).val)
    rw [pRow_read, hk, k0_off2_eq, Nat.zero_add, Nat.one_mul, Nat.one_mul]
    have hlt := hin (S128.rowMajor.symm (Fin.cast hn.symm (y hg.axis')))
    rw [pRow_read, hk] at hlt
    exact (Nat.mod_eq_of_lt hlt).symm
  | 1 =>
    show 0 + 1 * (y 1).val = k0_off2 L (BitVec.ofNat 32 (128 * r.val)) 1 + 1 * (y 1).val
    rw [k0_off2_eq]; rfl

end Cert.Proof.Gather

end
-- ==== Proof.Tile.lean ====
/- One worker's body, at a symbolic pair of SparseCore and tile: from its positions, its read shares of the table and
   its blocks of the output, it ends with the same positions and table, every block holding its rows of the gathered
   array, and its semaphores at zero. -/
module

public import proofs.«01_k».proof.Proof.Windows

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S32768x128 EltTy.f32)
local notation "pV" => (Memref.whole Cert.KernelIdeal.main_arg1_scv : Memref Cert.KernelIdeal.sig Kind.scVector Space.hbm Cert.KernelIdeal.S4x8192 EltTy.i32)
local notation "oV" => (Memref.whole Cert.KernelIdeal.main_v1_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S8x128 EltTy.i32)
local notation "bV" => (Memref.whole Cert.KernelIdeal.cc0_scratch1 : Memref Cert.KernelIdeal.sig Kind.scVector Space.vmem Cert.KernelIdeal.S2x128x128 EltTy.f32)

variable (d : Dev nD) (L : grid0.Coords)

abbrev cV (L : grid0.Coords) : Fin τ.nSC := (L 0).castLE hcore0
abbrev jV (L : grid0.Coords) : Fin τ.nSub := (L 1).castLE hsub0
/-- The vector subcore that runs worker `L`. -/
abbrev VT (d : Dev nD) (L : grid0.Coords) : Thread nD τ := V d (cV L) (jV L)

/-- Worker `L` holds the elements of window `w` at share `q`, contents `f`. -/
abbrev held {sp : Space} {s : Shape} {e : EltTy} (w : Memref sig .scVector sp s e) (q : PosShare TreeShare) (f : Buf (Elt F) (w.view.loc (VT d L))) : sProp 𝕄 :=
  w.view.loc (VT d L) ↦[w.view.set]{q} f

/-- A window written whole with what it reads of `G` holds `G`. -/
theorem held_written {sp : Space} {s : Shape} {e : EltTy} (w : Memref sig .scVector sp s e) (q : PosShare TreeShare) (f G : Buf (Elt F) (w.view.loc (VT d L)))
    (x : s.Idx → Elt F e) (hx : x = w.view.read (Elt F) G) :
    (held d L w q (w.view.writes (Elt F) f [⟨Rect.whole s, x⟩]) : sProp 𝕄) ⊢ held d L w q G := by
  refine Entails.of_eq (pointsTo_congr fun i hi => ?_)
  obtain ⟨y, -, rfl⟩ := Finset.mem_map.mp hi
  have h := congrFun (View.read_writes_whole w.view f x) y
  rw [hx, View.read_apply, View.read_apply] at h
  rw [hx]
  exact (cast_inj _).mp h

/-- A window of the gathered array reads it at the window's places. -/
theorem oBlk_read (c : BitVec 32) (h) (G : S32768x128.Idx → Elt F .f32) (y : S128x128.Idx) :
    (oBlk L c h).view.read (Elt F) G y = G ((oBlk L c h).view.emb y) :=
  (View.read_apply _ _).trans (cast_eq _ _)

/-- What a worker's write-out at step `r` carries, from the row buffer the step's gather filled: its rows of the
    gathered array. -/
theorem step_value (r : Fin 8) (h h2) (o : ℕ) (ho) (o' : ℕ) (ho') (hg : S32768x128.Gathers 0 S128x128) (hn : S128.numel = S128x128.size hg.axis')
    (tbl : S32768x128.Idx → Elt F .f32) (pos : S4x8192.Idx → BitVec 32) (l0 : BufTy.Contents (Elt F) (lRow o' ho').view.ty)
    (b0 : BufTy.Contents (Elt F) (slot o ho).view.ty) (rest : List (View.Piece (Elt F) S128x128 .f32)) (hin) :
    ReadAs.same.apply ((slot o ho).view.read (Elt F) ((slot o ho).view.writes (Elt F) b0
        (⟨Rect.whole S128x128, SparseCore.gatherPayload hg ((xAll).view.read (Elt F) tbl) (SparseCore.rows ((lRow o' ho').view.read (Elt F)
          ((lRow o' ho').view.writes (Elt F) l0 [⟨Rect.whole S128, ReadAs.same.apply ((pRow L (BitVec.ofNat 32 (128 * r.val)) h).view.read (Elt F) pos)⟩])) hn hin)⟩ :: rest)))
      = (oBlk L (BitVec.ofNat 32 (128 * r.val)) h2).view.read (Elt F) (gathered tbl pos) := by
  refine (slot_read o ho b0 _ rest).trans (funext fun y => ?_)
  rw [oBlk_read]
  exact payload_eq L r h h2 hg hn tbl pos _ (lRow_read o' ho' l0 _) hin y

variable [FloatOps F]

/-- What a worker reads: its positions, step by step, and two read shares of the table (two gathers are in flight at
    once). -/
abbrev reads (tbl : Buf (Elt F) ((xV).view.loc (VT d L))) (pos : Buf (Elt F) ((pV).view.loc (VT d L))) (qx qp : PosShare TreeShare) : sProp 𝕄 :=
  iprop(held d L (pRow L 0#32 (k0_off1_inb L 0)) (Transfers.shareTokN qp 0) pos
        ∗ held d L (pRow L 128#32 (k0_off1_inb L 1)) (Transfers.shareTokN qp 1) pos
        ∗ held d L (pRow L 256#32 (k0_off1_inb L 2)) (Transfers.shareTokN qp 2) pos
        ∗ held d L (pRow L 384#32 (k0_off1_inb L 3)) (Transfers.shareTokN qp 3) pos
        ∗ held d L (pRow L 512#32 (k0_off1_inb L 4)) (Transfers.shareTokN qp 4) pos
        ∗ held d L (pRow L 640#32 (k0_off1_inb L 5)) (Transfers.shareTokN qp 5) pos
        ∗ held d L (pRow L 768#32 (k0_off1_inb L 6)) (Transfers.shareTokN qp 6) pos
        ∗ held d L (pRow L 896#32 (k0_off1_inb L 7)) (Transfers.shareTokN qp 7) pos
        ∗ ((xV).view.loc (VT d L) ↦{Transfers.shareTokN qx 0} tbl)
        ∗ ((xV).view.loc (VT d L) ↦{Transfers.shareTokN qx 1} tbl))

/-- A worker's eight windows of the gathered array, at contents `f`. -/
abbrev outs (f : Buf (Elt F) ((oV).view.loc (VT d L))) : sProp 𝕄 :=
  iprop(held d L (oBlk L 0#32 (k0_off2_inb L 0)) fullShare f
        ∗ held d L (oBlk L 128#32 (k0_off2_inb L 1)) fullShare f
        ∗ held d L (oBlk L 256#32 (k0_off2_inb L 2)) fullShare f
        ∗ held d L (oBlk L 384#32 (k0_off2_inb L 3)) fullShare f
        ∗ held d L (oBlk L 512#32 (k0_off2_inb L 4)) fullShare f
        ∗ held d L (oBlk L 640#32 (k0_off2_inb L 5)) fullShare f
        ∗ held d L (oBlk L 768#32 (k0_off2_inb L 6)) fullShare f
        ∗ held d L (oBlk L 896#32 (k0_off2_inb L 7)) fullShare f)

/-- A worker's index scratch, row by row, and its two row buffers. -/
abbrev scratch : sProp 𝕄 :=
  iprop((∃ f, held d L (lRow 0 inb_S8x128_S1x128_0_0) fullShare f)
        ∗ (∃ f, held d L (lRow 1 inb_S8x128_S1x128_1_0) fullShare f)
        ∗ (∃ f, held d L (lRow 2 inb_S8x128_S1x128_2_0) fullShare f)
        ∗ (∃ f, held d L (lRow 3 inb_S8x128_S1x128_3_0) fullShare f)
        ∗ (∃ f, held d L (lRow 4 inb_S8x128_S1x128_4_0) fullShare f)
        ∗ (∃ f, held d L (lRow 5 inb_S8x128_S1x128_5_0) fullShare f)
        ∗ (∃ f, held d L (lRow 6 inb_S8x128_S1x128_6_0) fullShare f)
        ∗ (∃ f, held d L (lRow 7 inb_S8x128_S1x128_7_0) fullShare f)
        ∗ (∃ f, held d L (slot 0 inb_S2x128x128_S1x128x128_0_0_0) fullShare f)
        ∗ (∃ f, held d L (slot 1 inb_S2x128x128_S1x128x128_1_0_0) fullShare f))

/-- A worker's four DMA semaphores at zero: the positions', one for each row buffer's gathers, the write-outs'. -/
abbrev cells0 : sProp 𝕄 :=
  iprop(semVal (VT d L, SemLoc.dma cc0_scratch2.sem) 0
        ∗ semVal (VT d L, SemLoc.dma cc0_scratch3.sem) 0
        ∗ semVal (VT d L, SemLoc.dma cc0_scratch4.sem) 0
        ∗ semVal (VT d L, SemLoc.dma cc0_scratch5.sem) 0)

set_option maxRecDepth 65536 in
/-- One worker's body: from its positions, its shares of the table and its windows of the gathered array, to the same
    with the windows holding the rows of the table that the positions name. -/
theorem tile_run (tbl : Buf (Elt F) ((xV).view.loc (VT d L))) (pos : Buf (Elt F) ((pV).view.loc (VT d L))) (o0 : Buf (Elt F) ((oV).view.loc (VT d L)))
    (qx qp : PosShare TreeShare) (hpos : ∀ y, (pos y).toNat < 32768) (O : CellTallies nD τ sig (HIx 1)) (W : Waits sig (HIx 1)) :
    (iprop(Transfers.MayWaits (VT d L) (default : HIx 1) O ∗ reads d L tbl pos qx qp ∗ outs d L o0 ∗ scratch d L ∗ cells0 d L ∗ owes (VT d L) O W) : sProp 𝕄)
      ⊢ wp frame (wpE (defs₀ (F := F)) 𝒱₀ (VT d L) none) Set.univ
          (cc0_gather_kernel L xV (Memref.isWhole_whole _) pV (Memref.isWhole_whole _) oV (Memref.isWhole_whole _)
            lV (Memref.isWhole_whole _) bV (Memref.isWhole_whole _) cc0_scratch2 cc0_scratch3 cc0_scratch4 cc0_scratch5)
          fun _ => iprop(reads d L tbl pos qx qp ∗ outs d L (gathered tbl pos) ∗ scratch d L ∗ cells0 d L ∗ ∃ W', owes (VT d L) O W') := by
  have hp1 : Transfers.BatchOf (VT d L) (SemLoc.dma cc0_scratch2.sem) 8 := trivial
  have hp2 : Transfers.BatchOfUse (VT d L) (SemLoc.dma cc0_scratch5.sem) 6 2 := trivial
  have hin : ∀ (c : BitVec 32) (h) (o : ℕ) (h') (g : Buf (Elt F) ((lV).view.loc (VT d L))), ∀ x, ((lRow o h').view.read (Elt F)
      ((lRow o h').view.writes (Elt F) g [⟨Rect.whole _, ReadAs.same.apply ((pRow L c h).view.read (Elt F) pos)⟩]) x).toNat < 32768 := by
    intro c h o h' g x
    rw [lRow_read]
    show ((pRow L c h).view.read (Elt F) pos x).toNat < 32768
    rw [View.read_apply]
    exact hpos _
  iintro ⟨#Hmw, ⟨HP0, HP1, HP2, HP3, HP4, HP5, HP6, HP7, HX0, HX1⟩, ⟨HO0, HO1, HO2, HO3, HO4, HO5, HO6, HO7⟩,
    ⟨⟨%l0, HL0⟩, ⟨%l1, HL1⟩, ⟨%l2, HL2⟩, ⟨%l3, HL3⟩, ⟨%l4, HL4⟩, ⟨%l5, HL5⟩, ⟨%l6, HL6⟩, ⟨%l7, HL7⟩, ⟨%b0, HB0⟩, ⟨%b1, HB1⟩⟩, ⟨HS0, HS1, HS2, HS3⟩, HO⟩
  sl_unfold [cc0_gather_kernel, k0_part1, k0_part2, k0_part3, k0_part4, k0_part5, k0_part6, k0_part7, k0_part8, k0_part9, k0_part10, k0_part11]
  sl_exec
  sl_step

  ihave HO0 := (held_written d L (oBlk L 0#32 (k0_off2_inb L 0)) fullShare o0 (gathered tbl pos) (tile_run.sl.dma0_1 d L tbl pos hin b0)
    (step_value L 0 (k0_off1_inb L 0) (k0_off2_inb L 0) 0 _ 0 _ _ _ tbl pos _ b0 _ _)) $$ HO0
  ihave HO1 := (held_written d L (oBlk L 128#32 (k0_off2_inb L 1)) fullShare o0 (gathered tbl pos) (tile_run.sl.dma0_2 d L tbl pos hin b1)
    (step_value L 1 (k0_off1_inb L 1) (k0_off2_inb L 1) 1 _ 1 _ _ _ tbl pos _ b1 _ _)) $$ HO1
  ihave HO2 := (held_written d L (oBlk L 256#32 (k0_off2_inb L 2)) fullShare o0 (gathered tbl pos) (tile_run.sl.dma0_3 d L tbl pos hin b0)
    (step_value L 2 (k0_off1_inb L 2) (k0_off2_inb L 2) 0 _ 2 _ _ _ tbl pos _ b0 _ _)) $$ HO2
  ihave HO3 := (held_written d L (oBlk L 384#32 (k0_off2_inb L 3)) fullShare o0 (gathered tbl pos) (tile_run.sl.dma0_4 d L tbl pos hin b1)
    (step_value L 3 (k0_off1_inb L 3) (k0_off2_inb L 3) 1 _ 3 _ _ _ tbl pos _ b1 _ _)) $$ HO3
  ihave HO4 := (held_written d L (oBlk L 512#32 (k0_off2_inb L 4)) fullShare o0 (gathered tbl pos) (tile_run.sl.dma0_5 d L tbl pos hin b0)
    (step_value L 4 (k0_off1_inb L 4) (k0_off2_inb L 4) 0 _ 4 _ _ _ tbl pos _ b0 _ _)) $$ HO4
  ihave HO5 := (held_written d L (oBlk L 640#32 (k0_off2_inb L 5)) fullShare o0 (gathered tbl pos) (tile_run.sl.dma0_6 d L tbl pos hin b1)
    (step_value L 5 (k0_off1_inb L 5) (k0_off2_inb L 5) 1 _ 5 _ _ _ tbl pos _ b1 _ _)) $$ HO5
  ihave HO6 := (held_written d L (oBlk L 768#32 (k0_off2_inb L 6)) fullShare o0 (gathered tbl pos) (tile_run.sl.dma22 d L tbl pos hin b0)
    (step_value L 6 (k0_off1_inb L 6) (k0_off2_inb L 6) 0 _ 6 _ _ _ tbl pos _ b0 _ _)) $$ HO6
  ihave HO7 := (held_written d L (oBlk L 896#32 (k0_off2_inb L 7)) fullShare o0 (gathered tbl pos) (tile_run.sl.dma23 d L tbl pos hin b1)
    (step_value L 7 (k0_off1_inb L 7) (k0_off2_inb L 7) 1 _ 7 _ _ _ tbl pos _ b1 _ _)) $$ HO7
  sl_close

end Cert.Proof.Gather

end
-- ==== Proof.Shares.lean ====
/- How one worker's resources are cut into the windows its body copies, and put back together: read shares lent to each
   window, the two scratch arrays as their rows, the gathered array as the workers' windows. -/
module

public import proofs.«01_k».proof.Proof.Tile

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S32768x128 EltTy.f32)
local notation "pV" => (Memref.whole Cert.KernelIdeal.main_arg1_scv : Memref Cert.KernelIdeal.sig Kind.scVector Space.hbm Cert.KernelIdeal.S4x8192 EltTy.i32)
local notation "oV" => (Memref.whole Cert.KernelIdeal.main_v1_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S8x128 EltTy.i32)
local notation "bV" => (Memref.whole Cert.KernelIdeal.cc0_scratch1 : Memref Cert.KernelIdeal.sig Kind.scVector Space.vmem Cert.KernelIdeal.S2x128x128 EltTy.f32)

/-! ## Cutting and rejoining in general -/

section General
variable {ℓ : Loc nD τ sig}

/-- Of an array held at a share, a part may be lent. -/
theorem lend_part (S : Finset (Idx ℓ)) (q : PosShare TreeShare) (f : Buf (Elt F) ℓ) :
    (ℓ ↦{q} f : sProp 𝕄) ⊢ iprop((ℓ ↦[S]{q} f) ∗ ((ℓ ↦[S]{q} f) -∗ ℓ ↦{q} f)) := by
  iintro H
  ihave H' := (pointsTo_split_subset (ℓ := ℓ) (q := q) (f := f) (Finset.subset_univ S)).1 $$ H
  icases H' with ⟨Hin, Hout⟩
  isplitl [Hin]; · iexact Hin
  iintro Hin
  iapply (pointsTo_split_subset (ℓ := ℓ) (q := q) (f := f) (Finset.subset_univ S)).2
  isplitl [Hin] <;> iassumption

/-- Each thing given to the one that waits for it. -/
theorem give_each {n : ℕ} (A B : Fin n → sProp 𝕄) :
    iprop(bigSep Finset.univ A ∗ bigSep Finset.univ fun i => iprop(A i -∗ B i)) ⊢ bigSep Finset.univ B := by
  have h : ∀ i, iprop(A i ∗ (A i -∗ B i)) ⊢ B i := fun i => wand_elim_right
  rw [← bigSep_sep']
  exact bigSep_mono fun i _ => h i

/-- Lending several things at once: what each lends, and the way back from all of them. -/
theorem lend_each {n : ℕ} (A B : Fin n → sProp 𝕄) (h : ∀ i, B i ⊢ iprop(A i ∗ (A i -∗ B i))) :
    (bigSep Finset.univ B) ⊢ iprop(bigSep Finset.univ A ∗ (bigSep Finset.univ A -∗ bigSep Finset.univ B)) := by
  refine (bigSep_mono fun i _ => h i).trans ?_
  rw [bigSep_sep']
  change iprop(bigSep Finset.univ A ∗ bigSep Finset.univ fun i => iprop(A i -∗ B i)) ⊢ _
  iintro ⟨Ha, Hw⟩
  isplitl [Ha]; · iexact Ha
  iintro Ha
  iapply (give_each A B)
  isplitl [Ha] <;> iassumption

/-- An array held at a share lends one read share on each of `n` parts, which may overlap. -/
theorem lend_parts {n : ℕ} (S : Fin n → Finset (Idx ℓ)) (q : PosShare TreeShare) (f : Buf (Elt F) ℓ) :
    (ℓ ↦{q} f : sProp 𝕄)
      ⊢ iprop((bigSep Finset.univ fun i : Fin n => ℓ ↦[S i]{Transfers.shareTokN q i.val} f)
          ∗ ((bigSep Finset.univ fun i : Fin n => ℓ ↦[S i]{Transfers.shareTokN q i.val} f) -∗ ℓ ↦{q} f)) := by
  iintro H
  ihave H' := (Transfers.pointsTo_toks (ℓ := ℓ) (S := Finset.univ) (f := f) q n).1 $$ H
  icases H' with ⟨Hd, Ht⟩
  ihave Ht' := (lend_each (fun i : Fin n => (ℓ ↦[S i]{Transfers.shareTokN q i.val} f : sProp 𝕄)) (fun i : Fin n => (ℓ ↦{Transfers.shareTokN q i.val} f : sProp 𝕄))
    fun i => lend_part (S i) _ f) $$ Ht
  icases Ht' with ⟨Ha, Hback⟩
  isplitl [Ha]; · iexact Ha
  iintro Ha
  iapply (Transfers.pointsTo_toks (ℓ := ℓ) (S := Finset.univ) (f := f) q n).2
  isplitl [Hd]; · iexact Hd
  iapply Hback; iexact Ha

/-- Parts held at one array's contents are held at some contents each. -/
theorem parts_some {n : ℕ} (S : Fin n → Finset (Idx ℓ)) (f : Buf (Elt F) ℓ) :
    (bigSep Finset.univ fun i => (ℓ ↦[S i]{fullShare} f : sProp 𝕄)) ⊢ bigSep Finset.univ fun i => iprop(∃ g, ℓ ↦[S i]{fullShare} g) := by
  have h : ∀ i, (ℓ ↦[S i]{fullShare} f : sProp 𝕄) ⊢ iprop(∃ g, ℓ ↦[S i]{fullShare} g) := fun i => by
    iintro H; iexists f; iexact H
  exact bigSep_mono fun i _ => h i

/-- An array held whole at some contents is its parts, each at some contents. -/
theorem cut_some {n : ℕ} (S : Fin (n + 1) → Finset (Idx ℓ)) (hd : ∀ i j, i ≠ j → Disjoint (S i) (S j)) (hc : ∀ x, ∃ i, x ∈ S i) :
    (iprop(∃ f, ℓ ↦{fullShare} f) : sProp 𝕄)
      ⊢ iprop((bigSep Finset.univ fun i => iprop(∃ f, ℓ ↦[S i]{fullShare} f))
          ∗ ((bigSep Finset.univ fun i => iprop(∃ f, ℓ ↦[S i]{fullShare} f)) -∗ ∃ f, ℓ ↦{fullShare} f)) := by
  have hcov : (Finset.univ : Finset (Fin (n + 1))).biUnion S = Finset.univ :=
    Finset.eq_univ_of_forall fun x => Finset.mem_biUnion.mpr ((hc x).imp fun i hi => ⟨Finset.mem_univ i, hi⟩)
  have hdis : ∀ i ∈ (Finset.univ : Finset (Fin (n + 1))), ∀ j ∈ (Finset.univ : Finset (Fin (n + 1))), i ≠ j → Disjoint (S i) (S j) := fun i _ j _ => hd i j
  iintro ⟨%f, H⟩
  isplitl [H]
  · have e : (ℓ ↦{fullShare} f : sProp 𝕄) = bigSep Finset.univ fun i => ℓ ↦[S i]{fullShare} f := by
      rw [← pointsTo_biUnion Finset.univ (ℓ := ℓ) S hdis, hcov]
    ihave H := (Entails.of_eq e) $$ H
    iapply (parts_some S f); iexact H
  have : Nonempty (Buf (Elt F) ℓ) := ⟨f⟩
  iintro H
  ihave H' := (bigSep_exists_pi Finset.univ (fun i (g : Buf (Elt F) ℓ) => (ℓ ↦[S i]{fullShare} g : sProp 𝕄))) $$ H
  icases H' with ⟨%fs, H⟩
  ihave H' := (pointsTo_biUnion_join (ℓ := ℓ) (q := fullShare) (Val := Elt F) Finset.univ S fs (fs 0) hdis) $$ H
  icases H' with ⟨%g, -, Hg⟩
  rw [hcov]
  iexists g; iexact Hg

/-- Eight things one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
/-- Two things one by one. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]
/-- Four things one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

end General

/-! ## The windows' places -/

/-- Row `i` of the index scratch; row buffer `i`. -/
theorem lRow_inb (i : Fin 8) : ∀ a, (![i.val, 0] : Fin 2 → ℕ) a + S1x128.size a ≤ S8x128.size a := by
  have := i.isLt; intro a; fin_cases a
  · show i.val + 1 ≤ 8; omega
  · show 0 + 128 ≤ 128; omega
theorem slot_inb (i : Fin 2) : ∀ a, (![i.val, 0, 0] : Fin 3 → ℕ) a + S1x128x128.size a ≤ S2x128x128.size a := by
  have := i.isLt; intro a; fin_cases a
  · show i.val + 1 ≤ 2; omega
  · show 0 + 128 ≤ 128; omega
  · show 0 + 128 ≤ 128; omega

abbrev lSet (i : Fin 8) : Finset S8x128.Idx := (lRow i.val (lRow_inb i)).view.set
abbrev bSet (i : Fin 2) : Finset S2x128x128.Idx := (slot i.val (slot_inb i)).view.set
abbrev oSet (L : grid0.Coords) (j : Fin 8) : Finset S32768x128.Idx := (oBlk L (BitVec.ofNat 32 (128 * j.val)) (k0_off2_inb L j)).view.set
abbrev pSet (L : grid0.Coords) (j : Fin 8) : Finset S4x8192.Idx := (pRow L (BitVec.ofNat 32 (128 * j.val)) (k0_off1_inb L j)).view.set

theorem lSet_eq (i : Fin 8) : lSet i = (Rect.unit (s := S8x128) ![i.val, 0] S1x128.size (lRow_inb i)).set := by
  show (((View.whole (cc0_scratch0 : Ref sig .scVector)).slice _).reshape S128 _).set = _
  rw [View.set_reshape, View.set_slice]; exact Finset.map_refl
theorem bSet_eq (i : Fin 2) : bSet i = (Rect.unit (s := S2x128x128) ![i.val, 0, 0] S1x128x128.size (slot_inb i)).set := by
  show (((View.whole (cc0_scratch1 : Ref sig .scVector)).slice _).reshape S128x128 _).set = _
  rw [View.set_reshape, View.set_slice]; exact Finset.map_refl
theorem oSet_eq (L : grid0.Coords) (j : Fin 8) :
    oSet L j = (Rect.unit (s := S32768x128) (k0_off2 L (BitVec.ofNat 32 (128 * j.val))) S128x128.size (k0_off2_inb L j)).set := by
  show ((View.whole (main_v1_scv : Ref sig .scVector)).slice _).set = _
  rw [View.set_slice]; exact Finset.map_refl

theorem lSet_disjoint (i j : Fin 8) (h : i ≠ j) : Disjoint (lSet i) (lSet j) := by
  have hij : i.val ≠ j.val := fun e => h (Fin.ext e)
  rw [lSet_eq, lSet_eq]
  refine Rect.disjoint_of_separated _ _ 0 ?_
  show (1 = 0 ∨ i.val + 1 * (1 - 1) < j.val) ∨ (1 = 0 ∨ j.val + 1 * (1 - 1) < i.val)
  omega
theorem bSet_disjoint (i j : Fin 2) (h : i ≠ j) : Disjoint (bSet i) (bSet j) := by
  have hij : i.val ≠ j.val := fun e => h (Fin.ext e)
  rw [bSet_eq, bSet_eq]
  refine Rect.disjoint_of_separated _ _ 0 ?_
  show (1 = 0 ∨ i.val + 1 * (1 - 1) < j.val) ∨ (1 = 0 ∨ j.val + 1 * (1 - 1) < i.val)
  omega
theorem lSet_cover (x : S8x128.Idx) : ∃ i, x ∈ lSet i := by
  have h1 : (x 1).val < 128 := (x 1).isLt
  refine ⟨⟨(x 0).val, (x 0).isLt⟩, ?_⟩
  rw [lSet_eq, Rect.mem_set_unit]
  intro a; fin_cases a
  · show (x 0).val ≤ (x 0).val ∧ (x 0).val < (x 0).val + 1; omega
  · show 0 ≤ (x 1).val ∧ (x 1).val < 0 + 128; omega
theorem bSet_cover (x : S2x128x128.Idx) : ∃ i, x ∈ bSet i := by
  have h1 : (x 1).val < 128 := (x 1).isLt
  have h2 : (x 2).val < 128 := (x 2).isLt
  refine ⟨⟨(x 0).val, (x 0).isLt⟩, ?_⟩
  rw [bSet_eq, Rect.mem_set_unit]
  intro a; fin_cases a
  · show (x 0).val ≤ (x 0).val ∧ (x 0).val < (x 0).val + 1; omega
  · show 0 ≤ (x 1).val ∧ (x 1).val < 0 + 128; omega
  · show 0 ≤ (x 2).val ∧ (x 2).val < 0 + 128; omega

/-- The worker on subcore `s` of SparseCore `c`. -/
def worker (c : Fin 2) (s : Fin 16) : grid0.Coords :=
  fun | 0 => c | 1 => s | ⟨_ + 2, h⟩ => absurd h (Nat.not_lt.2 (Nat.le_add_left _ _))

/-- The windows of the gathered array, numbered by SparseCore, subcore and step. -/
abbrev oPart (p : (Fin 2 × Fin 16) × Fin 8) : Finset S32768x128.Idx := oSet (worker p.1.1 p.1.2) p.2

/-- Step `j` of worker `(c, s)` writes rows `2048 s + 1024 c + 128 j` and on. -/
theorem mem_oPart (p : (Fin 2 × Fin 16) × Fin 8) (x : S32768x128.Idx) :
    x ∈ oPart p ↔ 2048 * p.1.2.val + 1024 * p.1.1.val + 128 * p.2.val ≤ (x 0).val ∧ (x 0).val < 2048 * p.1.2.val + 1024 * p.1.1.val + 128 * p.2.val + 128 := by
  have h1 : (x 1).val < 128 := (x 1).isLt
  show x ∈ oSet (worker p.1.1 p.1.2) p.2 ↔ _
  rw [oSet_eq, Rect.mem_set_unit, k0_off2_eq]
  constructor
  · intro h; exact h 0
  · intro h a; fin_cases a
    · exact h
    · show 0 ≤ (x 1).val ∧ (x 1).val < 0 + 128; omega

theorem oPart_disjoint : ∀ p ∈ (Finset.univ : Finset ((Fin 2 × Fin 16) × Fin 8)), ∀ p' ∈ (Finset.univ : Finset ((Fin 2 × Fin 16) × Fin 8)),
    p ≠ p' → Disjoint (oPart p) (oPart p') := by
  rintro ⟨⟨c, s⟩, j⟩ - ⟨⟨c', s'⟩, j'⟩ - h
  rw [Finset.disjoint_left]
  intro x hx hx'
  rw [mem_oPart] at hx hx'
  have := c.isLt; have := c'.isLt; have := s.isLt; have := s'.isLt; have := j.isLt; have := j'.isLt
  simp only at hx hx'
  refine h (Prod.ext (Prod.ext (Fin.ext ?_) (Fin.ext ?_)) (Fin.ext ?_)) <;> simp only <;> omega
theorem oPart_cover : (Finset.univ : Finset ((Fin 2 × Fin 16) × Fin 8)).biUnion oPart = Finset.univ := by
  refine Finset.eq_univ_of_forall fun x => Finset.mem_biUnion.mpr ?_
  have h0 : (x 0).val < 32768 := (x 0).isLt
  refine ⟨((⟨(x 0).val / 1024 % 2, by omega⟩, ⟨(x 0).val / 2048, by omega⟩), ⟨(x 0).val / 128 % 8, by omega⟩), Finset.mem_univ _, ?_⟩
  rw [mem_oPart]
  simp only
  omega

/-! ## One worker's resources in its body's windows -/

variable (d : Dev nD) (L : grid0.Coords)

/-- A worker's eight windows of the gathered array, as the family of its steps. -/
theorem outs_eq (f : Buf (Elt F) (oLoc d)) :
    (bigSep Finset.univ fun j : Fin 8 => (oLoc d ↦[oSet L j]{fullShare} f : sProp 𝕄)) = outs d L f :=
  bigSep_eight _

/-- A worker's shares of the table and of `position_ids` lend what its body reads. -/
theorem lend_reads (tbl : Buf (Elt F) (xLoc d)) (pos : Buf (Elt F) (pLoc d)) (q : PosShare TreeShare) :
    (iprop((xLoc d ↦{q} tbl) ∗ pLoc d ↦{q} pos) : sProp 𝕄)
      ⊢ iprop(reads d L tbl pos q q ∗ (reads d L tbl pos q q -∗ iprop((xLoc d ↦{q} tbl) ∗ pLoc d ↦{q} pos))) := by
  have hp : (pLoc d ↦{q} pos : sProp 𝕄) ⊢ _ := lend_parts (pSet L) q pos
  have hx : (xLoc d ↦{q} tbl : sProp 𝕄) ⊢ _ := lend_parts (fun _ : Fin 2 => Finset.univ) q tbl
  rw [bigSep_eight] at hp
  rw [bigSep_two] at hx
  iintro ⟨Hx, Hp⟩
  ihave Hx := hx $$ Hx
  ihave Hp := hp $$ Hp
  icases Hx with ⟨⟨Hx0, Hx1⟩, Hxb⟩
  icases Hp with ⟨⟨Hp0, Hp1, Hp2, Hp3, Hp4, Hp5, Hp6, Hp7⟩, Hpb⟩
  isplitl [Hx0 Hx1 Hp0 Hp1 Hp2 Hp3 Hp4 Hp5 Hp6 Hp7]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hx0]; · iexact Hx0
    iexact Hx1
  iintro ⟨Hp0, Hp1, Hp2, Hp3, Hp4, Hp5, Hp6, Hp7, Hx0, Hx1⟩
  isplitl [Hxb Hx0 Hx1]
  · iapply Hxb
    isplitl [Hx0]; · iexact Hx0
    iexact Hx1
  iapply Hpb
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  iexact Hp7

/-- A worker's two scratch arrays, at some contents, lend the rows and row buffers its body fills. -/
theorem lend_scratch :
    (iprop((∃ f, (VT d L).loc cc0_scratch0 ↦{fullShare} f) ∗ (∃ f, (VT d L).loc cc0_scratch1 ↦{fullShare} f)) : sProp 𝕄)
      ⊢ iprop(scratch d L ∗ (scratch d L -∗ iprop((∃ f, (VT d L).loc cc0_scratch0 ↦{fullShare} f) ∗ (∃ f, (VT d L).loc cc0_scratch1 ↦{fullShare} f)))) := by
  have hl : (iprop(∃ f, (VT d L).loc cc0_scratch0 ↦{fullShare} f) : sProp 𝕄) ⊢ _ := cut_some (ℓ := (VT d L).loc cc0_scratch0) lSet lSet_disjoint lSet_cover
  have hb : (iprop(∃ f, (VT d L).loc cc0_scratch1 ↦{fullShare} f) : sProp 𝕄) ⊢ _ := cut_some (ℓ := (VT d L).loc cc0_scratch1) bSet bSet_disjoint bSet_cover
  rw [bigSep_eight] at hl
  rw [bigSep_two] at hb
  iintro ⟨Hl, Hb⟩
  ihave Hl := hl $$ Hl
  ihave Hb := hb $$ Hb
  icases Hb with ⟨⟨Hx0, Hx1⟩, Hxb⟩
  icases Hl with ⟨⟨Hp0, Hp1, Hp2, Hp3, Hp4, Hp5, Hp6, Hp7⟩, Hpb⟩
  isplitl [Hx0 Hx1 Hp0 Hp1 Hp2 Hp3 Hp4 Hp5 Hp6 Hp7]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hx0]; · iexact Hx0
    iexact Hx1
  iintro ⟨Hp0, Hp1, Hp2, Hp3, Hp4, Hp5, Hp6, Hp7, Hx0, Hx1⟩
  isplitr [Hxb Hx0 Hx1]
  · iapply Hpb
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  iapply Hxb
  isplitl [Hx0]; · iexact Hx0
  iexact Hx1

end Cert.Proof.Gather

end
-- ==== Proof.Launch.lean ====
/- The launch of the gather kernel: what each worker is dealt and hands back, and that the body keeps that bargain. -/
module

public import proofs.«01_k».proof.Proof.Shares

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S32768x128 EltTy.f32)
local notation "pV" => (Memref.whole Cert.KernelIdeal.main_arg1_scv : Memref Cert.KernelIdeal.sig Kind.scVector Space.hbm Cert.KernelIdeal.S4x8192 EltTy.i32)
local notation "oV" => (Memref.whole Cert.KernelIdeal.main_v1_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S8x128 EltTy.i32)
local notation "bV" => (Memref.whole Cert.KernelIdeal.cc0_scratch1 : Memref Cert.KernelIdeal.sig Kind.scVector Space.vmem Cert.KernelIdeal.S2x128x128 EltTy.f32)

variable (m : (ℓ : Loc nD τ sig) → Buf (Elt F) ℓ)

/-! ## What a worker is dealt -/

/-- The table the workers gather from: the cache, its last two axes laid out as one. -/
def table (d : Dev nD) : S32768x128.Idx → Elt F .f32 :=
  shapeCast S32768x128 (m (cLoc d) : S32768x64x2.Idx → Elt F .f32) shapeCasts_S32768x64x2_S32768x128

/-- The read share of worker `(c, s)`. -/
def share (c : Fin 2) (s : Fin 16) : PosShare TreeShare := Transfers.shareTokN fullShare (finProdFinEquiv (c, s)).val

/-- Worker `(c, s)`: a read share of the table and of `position_ids`, its eight windows of the gathered array at `f`. -/
abbrev dealt (d : Dev nD) (c : Fin 2) (s : Fin 16) (f : Buf (Elt F) (oLoc d)) : sProp 𝕄 :=
  iprop((xLoc d ↦{share c s} table m d) ∗ (pLoc d ↦{share c s} m (pLoc d))
    ∗ bigSep Finset.univ fun j : Fin 8 => oLoc d ↦[oSet (worker c s) j]{fullShare} f)

/-- What the workers leave in the gathered array. -/
abbrev result (d : Dev nD) : Buf (Elt F) (oLoc d) := gathered (table m d) (m (pLoc d) : S4x8192.Idx → BitVec 32)

/-- The call deals each SparseCore its sixteen workers' pieces, each worker its own, and takes them back with the
    gathered array's windows filled. -/
def P : (K (F := F)).Pay (nD := nD) (Val := Elt F) (Name := ℕ) (U := UU) where
  st := fun q d c => match q with | 0 => bigSep Finset.univ fun s : Fin 16 => dealt m d (Fin.cast nCore_zero c) s (m (oLoc d))
  dn := fun q d c => match q with | 0 => bigSep Finset.univ fun s : Fin 16 => dealt m d (Fin.cast nCore_zero c) s (result m d)
  go := fun q d c i => match q with | 0 => dealt m d (Fin.cast nCore_zero c) (Fin.cast nSub_zero i) (m (oLoc d))
  td := fun q d c i => match q with | 0 => dealt m d (Fin.cast nCore_zero c) (Fin.cast nSub_zero i) (result m d)
  x := fun _ _ => iprop(emp)

instance P_storable : (P (F := F) m).IsStorable where
  st q d c := match q with
    | 0 => (inferInstance : BI.Storable (upEmb : UEmb _ 𝕄) (bigSep Finset.univ fun s : Fin 16 => dealt m d (Fin.cast nCore_zero c) s (m (oLoc d))))
  dn q d c := match q with
    | 0 => (inferInstance : BI.Storable (upEmb : UEmb _ 𝕄) (bigSep Finset.univ fun s : Fin 16 => dealt m d (Fin.cast nCore_zero c) s (result m d)))
  go q d c i := match q with
    | 0 => (inferInstance : BI.Storable (upEmb : UEmb _ 𝕄) (dealt m d (Fin.cast nCore_zero c) (Fin.cast nSub_zero i) (m (oLoc d))))
  td q d c i := match q with
    | 0 => (inferInstance : BI.Storable (upEmb : UEmb _ 𝕄) (dealt m d (Fin.cast nCore_zero c) (Fin.cast nSub_zero i) (result m d)))

/-- A SparseCore's pieces are its workers' pieces, at the call and at its end. -/
theorem vecSplit : (K (F := F)).VecSplit' (P m) 0 := by
  intro d c
  have e : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun s : Fin 16 => dealt m d (Fin.cast nCore_zero c) s (m (oLoc d))) ⊢ |={Set.univ}=> iprop(
      (bigSep Finset.univ fun i : Fin ((K (F := F)).nSub 0) => dealt m d (Fin.cast nCore_zero c) (Fin.cast nSub_zero i) (m (oLoc d)))
      ∗ ((bigSep Finset.univ fun i : Fin ((K (F := F)).nSub 0) => dealt m d (Fin.cast nCore_zero c) (Fin.cast nSub_zero i) (result m d))
          -∗ bigSep Finset.univ fun s : Fin 16 => dealt m d (Fin.cast nCore_zero c) s (result m d)))
  rw [e (fun s => dealt m d (Fin.cast nCore_zero c) s (m (oLoc d))), e (fun s => dealt m d (Fin.cast nCore_zero c) s (result m d))]
  iintro H; imodintro
  isplitl [H]; · iexact H
  iintro H; iexact H

/-! ## A worker's own semaphores and scratch -/

section Own
variable (d : Dev nD) (L : grid0.Coords)

/-- DMA semaphore `k` of a worker's subcore. -/
abbrev cell (k : Fin 4) : GSem nD τ sig := (VT d L, .dma (⟨k.val, k.isLt⟩ : DmaSem sig))

theorem cell_own (k : Fin 4) : cell d L k ∈ ownCells (VT d L) :=
  mem_ownCells.mpr ⟨rfl, (show ∀ s : DmaSem sig, (SemLoc.dma s : SemLoc sig).isScoped .scVector = true by decide) _⟩

/-- Among the subcore's own semaphores at zero are the four that the body names. -/
theorem own_cells :
    (ownSems0 (VT d L) : sProp 𝕄)
      = iprop(cells0 d L ∗ bigSep (ownCells (VT d L) \ Finset.univ.image (cell d L)) fun g => semVal g 0) := by
  unfold SparseCore.Cfg.ownSems0
  rw [SparseCore.bigSep_sdiff_split' (Finset.image_subset_iff.mpr fun k _ => cell_own d L k),
    SparseCore.bigSep_image_of_injOn (fun a _ b _ h => by
      have e := congrArg (fun g : GSem nD τ sig => g.2) h
      simp only [SemLoc.dma.injEq, Fin.mk.injEq] at e; exact Fin.ext e), bigSep_four]
  have e : ∀ k : Fin 4, (⟨k.val, k.isLt⟩ : DmaSem sig) = ![cc0_scratch2.sem, cc0_scratch3.sem, cc0_scratch4.sem, cc0_scratch5.sem] k := by decide
  unfold cells0 cell
  rw [e 0, e 1, e 2, e 3]
  rfl

/-- Among the subcore's own buffers are the two scratch arrays. -/
theorem own_scratch :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  have ne : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne, SparseCore.Cfg.mem_ownRefs_of_owner (p := Proc.scVector (cV L) (jV L))
    (b := (Proc.scVector (cV L) (jV L)).devRef cc0_scratch1) rfl⟩)]

end Own

/-! ## The body keeps the bargain -/

variable [FloatOps F]

/-- Worker `(c, s)`, from what it is dealt and its subcore's own buffers and semaphores, leaves the rows it was asked
    for in its windows and everything else as it was. -/
theorem body_ok (d : Dev nD) (c : Fin 2) (s : Fin 16) (hF : (K (F := F)).Facts) (hpos : ∀ y, (m (pLoc d) y : BitVec 32).toNat < 32768)
    (O : CellTallies nD τ sig (HIx 1)) (W : Waits sig (HIx 1)) (hO : ∀ g, O g none = 0) :
    iprop(levAts (K (F := F)).L (K (F := F)).lev ∗ emp ∗ dealt m d c s (m (oLoc d))
        ∗ scopedBufs (VT d (worker c s)) ∗ scopedSems0 (VT d (worker c s)) ∗ owes (VT d (worker c s)) O W)
      ⊢ wp frame (wpE (defs₀ (F := F)) 𝒱₀ (VT d (worker c s)) none) Set.univ
          (cc0_gather_kernel (worker c s) xV (Memref.isWhole_whole _) pV (Memref.isWhole_whole _) oV (Memref.isWhole_whole _)
            lV (Memref.isWhole_whole _) bV (Memref.isWhole_whole _) cc0_scratch2 cc0_scratch3 cc0_scratch4 cc0_scratch5)
          fun _ => iprop(dealt m d c s (result m d) ∗ scopedBufs (VT d (worker c s)) ∗ scopedSems0 (VT d (worker c s))
            ∗ ∃ W', ⌜∀ p ∈ W', p ∈ W ∨ p.2 = none ∨ p.2 = some (0 : Fin 1)⌝ ∗ owes (VT d (worker c s)) O W') := by
  unfold dealt
  rw [(K (F := F)).scopedBufs_V hF d (cV (worker c s)) (jV (worker c s)), SparseCore.Cfg.scopedSems0_V (Val := Elt F) d (cV (worker c s)) (jV (worker c s)),
    own_cells, own_scratch, outs_eq, outs_eq]
  iintro ⟨#Hlv, -, ⟨Hx, Hp, Ho⟩, ⟨Hl, Hb, Hbufs⟩, ⟨HC, Hsems⟩, HO⟩
  ihave Hmw := (show levAts (K (F := F)).L (K (F := F)).lev ⊢ Transfers.MayWaits (VT d (worker c s)) (default : HIx 1) O from
    (K (F := F)).mayWaits_none (thr := VT d (worker c s)) hO) $$ Hlv
  ihave Hr := (lend_reads d (worker c s) (table m d) (m (pLoc d)) (share c s)) $$ [Hx Hp]
  · isplitl [Hx] <;> iassumption
  icases Hr with ⟨Hr, Hrback⟩
  ihave Hs := (lend_scratch d (worker c s)) $$ [Hl Hb]
  · isplitl [Hl] <;> iassumption
  icases Hs with ⟨Hs, Hsback⟩
  iapply (wp_wand_r Idealize.ShloMosaic.frame (wpE (defs₀ (F := F)) 𝒱₀ (VT d (worker c s)) none) Set.univ)
  isplitl [Hr Ho Hs HC HO]
  · iapply (tile_run d (worker c s) (table m d) (m (pLoc d)) (m (oLoc d)) (share c s) (share c s) hpos O W)
    isplitr; · iexact Hmw
    isplitl [Hr]; · iexact Hr
    isplitl [Ho]; · iexact Ho
    isplitl [Hs]; · iexact Hs
    isplitl [HC]; · iexact HC
    iexact HO
  iintro %_ ⟨Hr, Ho, Hs, HC, ⟨%W', HO⟩⟩
  ihave Hxp := Hrback $$ Hr
  icases Hxp with ⟨Hx, Hp⟩
  ihave Hlb := Hsback $$ Hs
  icases Hlb with ⟨Hl, Hb⟩
  isplitl [Hx Hp Ho]
  · isplitl [Hx]; · iexact Hx
    isplitl [Hp]; · iexact Hp
    iexact Ho
  isplitl [Hl Hb Hbufs]
  · isplitl [Hl]; · iexact Hl
    isplitl [Hb]; · iexact Hb
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-- The kernel's label on a vector subcore of the grid is the body at that subcore's worker. -/
theorem defs₀_vector (c : Fin τ.nSC) (s : Fin τ.nSub) :
    defs₀ (F := F) (.scVector c s) 0 ()
      = SparseCore.onTile hcore0 hsub0 (fun c s => cc0_gather_kernel (worker c s)
          xV (Memref.isWhole_whole _) pV (Memref.isWhole_whole _) oV (Memref.isWhole_whole _)
          lV (Memref.isWhole_whole _) bV (Memref.isWhole_whole _) cc0_scratch2 cc0_scratch3 cc0_scratch4 cc0_scratch5) ⟨⟩ c s := rfl

/-- Every worker of the call keeps the bargain. -/
theorem tileObl (hF : (K (F := F)).Facts) (hpos : ∀ d y, (m (pLoc d) y : BitVec 32).toNat < 32768) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact body_ok m d ⟨_, hci.1⟩ ⟨_, hci.2⟩ hF (hpos d) O W hO

end Cert.Proof.Gather

end
-- ==== Proof.Main.lean ====
/- The whole program's run: the table laid out, the call, the result laid out, and what every final state holds. -/
module

public import proofs.«01_k».proof.Proof.Launch

@[expose] public section

noncomputable section

namespace Cert.Proof.Gather

open Cert.KernelIdeal Cert.KernelIdeal.Gen
open Idealize.ShloMosaic Idealize.ShloMosaic.TcCoe Idealize.ShloMosaic.StableHlo
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The workers' pieces are the arrays -/

/-- An array held whole is what the workers' read shares leave over, and the workers' read shares. -/
theorem shares {ℓ : Loc nD τ sig} (f : Buf (Elt F) ℓ) :
    (ℓ ↦{fullShare} f : sProp 𝕄)
      ⊣⊢ iprop((ℓ ↦{Transfers.shareDrop fullShare 32} f) ∗ bigSep Finset.univ fun p : Fin 2 × Fin 16 => ℓ ↦{share p.1 p.2} f) := by
  have e : (bigSep Finset.univ fun i : Fin 32 => (ℓ ↦{Transfers.shareTok fullShare 32 i} f : sProp 𝕄))
      = bigSep Finset.univ fun p : Fin 2 × Fin 16 => ℓ ↦{share p.1 p.2} f :=
    bigSep_univ_equiv (finProdFinEquiv : Fin 2 × Fin 16 ≃ Fin (2 * 16)) (fun i : Fin 32 => (ℓ ↦{Transfers.shareTok fullShare 32 i} f : sProp 𝕄))
  rw [← e]
  exact Transfers.pointsTo_toks (ℓ := ℓ) (S := Finset.univ) (f := f) fullShare 32

/-- The gathered array is the workers' windows of it. -/
theorem windows (d : Dev nD) (f : Buf (Elt F) (oLoc d)) :
    (oLoc d ↦{fullShare} f : sProp 𝕄)
      = bigSep Finset.univ fun p : Fin 2 × Fin 16 => bigSep Finset.univ fun j : Fin 8 => oLoc d ↦[oSet (worker p.1 p.2) j]{fullShare} f := by
  rw [← BI.bigSep_univ_prod (fun q : (Fin 2 × Fin 16) × Fin 8 => (oLoc d ↦[oPart q]{fullShare} f : sProp 𝕄)),
    ← pointsTo_biUnion Finset.univ (ℓ := oLoc d) oPart oPart_disjoint, oPart_cover]

/-- All the workers' pieces, array by array. -/
theorem dealt_all (d : Dev nD) (f : Buf (Elt F) (oLoc d)) :
    (bigSep Finset.univ fun c : Fin 2 => bigSep Finset.univ fun s : Fin 16 => dealt m d c s f)
      = iprop((bigSep Finset.univ fun p : Fin 2 × Fin 16 => xLoc d ↦{share p.1 p.2} table m d)
          ∗ (bigSep Finset.univ fun p : Fin 2 × Fin 16 => pLoc d ↦{share p.1 p.2} m (pLoc d)) ∗ (oLoc d ↦{fullShare} f)) := by
  rw [windows, ← bigSep_sep', ← bigSep_sep', BI.bigSep_univ_prod]

/-! ## The launch element -/

def u₀ : UU := (initOf (K (F := F)).hsCells (K (F := F)).hsToks, 1)

/-- Nothing, however many times, is nothing. -/
theorem bigSep_nothing {I : Type} (s : Finset I) : (bigSep s fun _ => iprop(emp)) = (iprop(emp) : sProp 𝕄) := bigSep_emp_const s

/-- The launch element gives the handshakes their cells; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The arrays of @main around the call -/

abbrev s' : DevRef τ sig := Proc.devRef .tc (main_arg0 : Ref sig .tc)
abbrev p' : DevRef τ sig := Proc.devRef .tc (main_arg1 : Ref sig .tc)
abbrev c' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev y' : DevRef τ sig := Proc.devRef .tc (main_v2 : Ref sig .tc)

/-- The two reshapes of @main: the cache into the table, the gathered array into the result. -/
abbrev opIn : HloOp τ sig (Elt F) := StableHlo.reshape main_arg2 main_v0 rfl shapeCasts_S32768x64x2_S32768x128
abbrev opOut : HloOp τ sig (Elt F) := StableHlo.reshape main_v1 main_v2 rfl shapeCasts_S32768x128_S4x8192x64x2

abbrev S6 : Finset (DevRef τ sig) := {s', p', c', x', o', y'}

theorem held_S6 (d : Dev nD) (W : Valuation τ sig (Elt F)) :
    (StableHlo.held (SparseCore.T d) S6 W : sProp 𝕄)
      = iprop((sLoc d ↦{fullShare} W s') ∗ (pLoc d ↦{fullShare} W p') ∗ (cLoc d ↦{fullShare} W c') ∗ (xLoc d ↦{fullShare} W x')
          ∗ (oLoc d ↦{fullShare} W o') ∗ yLoc d ↦{fullShare} W y') := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]

theorem unscoped_eq (d : Dev nD) (W : (b : Ref sig .tc) → Buf (Elt F) ((d.tc : Thread nD τ).loc b)) :
    (unscopedBufs d W : sProp 𝕄)
      = iprop((sLoc d ↦{fullShare} W main_arg0) ∗ (pLoc d ↦{fullShare} W main_arg1) ∗ (cLoc d ↦{fullShare} W main_arg2)
          ∗ (xLoc d ↦{fullShare} W main_v0) ∗ (oLoc d ↦{fullShare} W main_v1) ∗ yLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at launch; before the call, with the table laid out; after it, with the gathered array. -/
def Va (d : Dev nD) : Valuation τ sig (Elt F) := fun b => m (d, b)
def Vb (d : Dev nD) : Valuation τ sig (Elt F) := (opIn (F := F)).result (Va m d)
def Vc (d : Dev nD) : Valuation τ sig (Elt F) := Function.update (Vb m d) o' (result m d)

theorem unscoped_held (d : Dev nD) : (unscopedBufs d (fun b => m ((SparseCore.T d).loc b)) : sProp 𝕄) = StableHlo.held (SparseCore.T d) S6 (Va m d) := by
  rw [unscoped_eq, held_S6]; rfl

theorem Vb_ne (d : Dev nD) {b : DevRef τ sig} (h : b ≠ x') : Vb m d b = m (d, b) :=
  (opIn (F := F)).result_of_not_mem _ (show b ∉ ({x'} : Finset (DevRef τ sig)) by simpa using h)
theorem Vb_x (d : Dev nD) : Vb m d x' = table m d := StableHlo.reshape_result _ _ _ _ _ _ _
theorem Vc_ne (d : Dev nD) {b : DevRef τ sig} (h : b ≠ o') : Vc m d b = Vb m d b := Function.update_of_ne h _ _
theorem Vc_o (d : Dev nD) : Vc m d o' = result m d := Function.update_self _ _ _

/-- The result of the program: the gathered array in the result's shape. -/
def answer (d : Dev nD) : S4x8192x64x2.Idx → Elt F .f32 :=
  shapeCast S4x8192x64x2 (gathered (table m d) (m (pLoc d) : S4x8192.Idx → BitVec 32)) shapeCasts_S32768x128_S4x8192x64x2

theorem held_Vb (d : Dev nD) :
    (StableHlo.held (SparseCore.T d) S6 ((opIn (F := F)).result (Va m d)) : sProp 𝕄)
      = iprop((sLoc d ↦{fullShare} m (sLoc d)) ∗ (pLoc d ↦{fullShare} m (pLoc d)) ∗ (cLoc d ↦{fullShare} m (cLoc d)) ∗ (xLoc d ↦{fullShare} table m d)
          ∗ (oLoc d ↦{fullShare} m (oLoc d)) ∗ yLoc d ↦{fullShare} m (yLoc d)) := by
  show StableHlo.held (SparseCore.T d) S6 (Vb m d) = _
  rw [held_S6, Vb_x, Vb_ne m d (show s' ≠ x' by decide), Vb_ne m d (show p' ≠ x' by decide), Vb_ne m d (show c' ≠ x' by decide),
    Vb_ne m d (show o' ≠ x' by decide), Vb_ne m d (show y' ≠ x' by decide)]

theorem held_Vc (d : Dev nD) :
    (StableHlo.held (SparseCore.T d) S6 (Vc m d) : sProp 𝕄)
      = iprop((sLoc d ↦{fullShare} m (sLoc d)) ∗ (pLoc d ↦{fullShare} m (pLoc d)) ∗ (cLoc d ↦{fullShare} m (cLoc d)) ∗ (xLoc d ↦{fullShare} table m d)
          ∗ (oLoc d ↦{fullShare} result m d) ∗ yLoc d ↦{fullShare} m (yLoc d)) := by
  rw [held_S6, Vc_o, Vc_ne m d (show s' ≠ o' by decide), Vc_ne m d (show p' ≠ o' by decide), Vc_ne m d (show c' ≠ o' by decide),
    Vc_ne m d (show x' ≠ o' by decide), Vc_ne m d (show y' ≠ o' by decide), Vb_x, Vb_ne m d (show s' ≠ x' by decide), Vb_ne m d (show p' ≠ x' by decide),
    Vb_ne m d (show c' ≠ x' by decide), Vb_ne m d (show y' ≠ x' by decide)]

theorem held_Vd (d : Dev nD) :
    (StableHlo.held (SparseCore.T d) S6 ((opOut (F := F)).result (Vc m d)) : sProp 𝕄)
      = iprop((sLoc d ↦{fullShare} m (sLoc d)) ∗ (pLoc d ↦{fullShare} m (pLoc d)) ∗ (cLoc d ↦{fullShare} m (cLoc d)) ∗ (xLoc d ↦{fullShare} table m d)
          ∗ (oLoc d ↦{fullShare} result m d) ∗ yLoc d ↦{fullShare} answer m d) := by
  have ne : ∀ b, b ≠ y' → (opOut (F := F)).result (Vc m d) b = Vc m d b :=
    fun b h => (opOut (F := F)).result_of_not_mem _ (show b ∉ ({y'} : Finset (DevRef τ sig)) by simpa using h)
  have hy : (opOut (F := F)).result (Vc m d) y' = answer m d :=
    (StableHlo.reshape_result _ _ _ _ _ _ _).trans (by rw [Vc_o]; rfl)
  rw [held_S6, hy, ne s' (by decide), ne p' (by decide), ne c' (by decide), ne x' (by decide), ne o' (by decide), Vc_o,
    Vc_ne m d (show s' ≠ o' by decide), Vc_ne m d (show p' ≠ o' by decide), Vc_ne m d (show c' ≠ o' by decide),
    Vc_ne m d (show x' ≠ o' by decide), Vb_x, Vb_ne m d (show s' ≠ x' by decide), Vb_ne m d (show p' ≠ x' by decide), Vb_ne m d (show c' ≠ x' by decide)]

theorem hIn : (opIn (F := F)).bufs ⊆ S6 := show ({c', x'} : Finset (DevRef τ sig)) ⊆ S6 by decide
theorem hOut : (opOut (F := F)).bufs ⊆ S6 := show ({o', y'} : Finset (DevRef τ sig)) ⊆ S6 by decide

theorem st0_eq (d : Dev nD) :
    (bigSep Finset.univ fun c : Fin ((K (F := F)).nCore 0) => (P m).st 0 d c)
      = bigSep Finset.univ fun c : Fin 2 => bigSep Finset.univ fun s : Fin 16 => dealt m d c s (m (oLoc d)) := rfl
theorem dn0_eq (d : Dev nD) :
    (bigSep Finset.univ fun c : Fin ((K (F := F)).nCore 0) => (P m).dn 0 d c)
      = bigSep Finset.univ fun c : Fin 2 => bigSep Finset.univ fun s : Fin 16 => dealt m d c s (result m d) := rfl

/-! ## @main -/

variable [FloatOps F]

/-- What @main leaves: its arguments as they were, the result. -/
abbrev FIN (d : Dev nD) : sProp 𝕄 :=
  iprop((sLoc d ↦{fullShare} m (sLoc d)) ∗ (pLoc d ↦{fullShare} m (pLoc d)) ∗ (cLoc d ↦{fullShare} m (cLoc d)) ∗ yLoc d ↦{fullShare} answer m d)

/-- @main on the TensorCore: the first reshape, the call from the table, the positions and the array to fill, the
    second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) hIn (V := Va m d)) $$ [Hb Hheld]
  · isplitl [Hb] <;> iassumption
  iintro ⟨Hb, Hheld⟩
  rw [wp_ret]; imodintro
  ihave Hh := (Entails.of_eq (held_Vb (F := F) m d)) $$ Hheld
  icases Hh with ⟨Hs, Hp, Hc, Hx, Ho, Hy⟩
  ihave Hx' := (shares (ℓ := xLoc d) (table m d)).1 $$ Hx
  icases Hx' with ⟨Hxr, Hx⟩
  ihave Hp' := (shares (m (pLoc d))).1 $$ Hp
  icases Hp' with ⟨Hpr, Hp⟩
  iapply ((K (F := F)).wp_run (D (F := F)) 𝒱 (EH := EH) (P := P m) κ d 0) $$ [Hst Hx Hp Ho Hb Hs Hc Hy Hxr Hpr Hts]
  isplitr; · iexact Hctx
  isplitl [Hst]; · iexact Hst
  isplitl [Hx Hp Ho]
  · rw [st0_eq, dealt_all]
    isplitl [Hx]; · iexact Hx
    isplitl [Hp]; · iexact Hp
    iexact Ho
  iintro ⟨Hst, Hdn⟩
  ihave Hdn' := (Entails.of_eq ((dn0_eq m d).trans (dealt_all m d (result m d)))) $$ Hdn
  icases Hdn' with ⟨Hx, Hp, Ho⟩
  ihave Hx := (shares (ℓ := xLoc d) (table m d)).2 $$ [Hxr Hx]
  · isplitl [Hxr] <;> iassumption
  ihave Hp := (shares (m (pLoc d))).2 $$ [Hpr Hp]
  · isplitl [Hpr] <;> iassumption
  iapply (wp_hlo_within 𝒱 (SparseCore.T d) none Set.univ (op := opOut) (S := S6) hOut (V := Vc m d)) $$ [Hb Hs Hp Hc Hx Ho Hy]
  · isplitl [Hb]; · iexact Hb
    rw [held_Vc]
    isplitl [Hs]; · iexact Hs
    isplitl [Hp]; · iexact Hp
    isplitl [Hc]; · iexact Hc
    isplitl [Hx]; · iexact Hx
    isplitl [Ho]; · iexact Ho
    iexact Hy
  iintro ⟨Hb, Hheld⟩
  ihave Hh := (Entails.of_eq (held_Vd (F := F) m d)) $$ Hheld
  icases Hh with ⟨Hs, Hp, Hc, -, -, Hy⟩
  rw [wp_ret]; imodintro; imodintro
  isplitl [Hst]; · iexact Hst
  isplitr [Hb Hts]
  · isplitl [Hs]; · iexact Hs
    isplitl [Hp]; · iexact Hp
    isplitl [Hc]; · iexact Hc
    iexact Hy
  isplitl [Hb] <;> iassumption

/-- What the claims read of a device's final state. -/
def fq (d : Dev nD) (st : Phys nD τ sig (Elt F)) : Prop :=
  st.mem.mem (sLoc d) = m (sLoc d) ∧ st.mem.mem (pLoc d) = m (pLoc d) ∧ st.mem.mem (cLoc d) = m (cLoc d) ∧ st.mem.mem (yLoc d) = answer m d

omit [FloatOps F] in
/-- An array held whole is the state's. -/
theorem agree {ℓ : Loc nD τ sig} (f : Buf (Elt F) ℓ) (st : Phys nD τ sig (Elt F)) :
    iprop(SI st ∗ ℓ ↦{fullShare} f) ⊢ (iprop(⌜st.mem.mem ℓ = f⌝ ∗ SI st) : sProp 𝕄) := by
  iintro ⟨HSI, H⟩
  ihave H := (persistent_entails_right (SI_pointsTo_agree (st := st) (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

omit [FloatOps F] in
theorem hfin (d : Dev nD) (st : Phys nD τ sig (Elt F)) : iprop(FIN m d ∗ SI st) ⊢ (⌜fq m d st⌝ : sProp 𝕄) := by
  iintro ⟨⟨Hs, Hp, Hc, Hy⟩, HSI⟩
  ihave H := (agree (m (sLoc d)) st) $$ [HSI Hs]
  · isplitl [HSI] <;> iassumption
  icases H with ⟨%hs, HSI⟩
  ihave H := (agree (m (pLoc d)) st) $$ [HSI Hp]
  · isplitl [HSI] <;> iassumption
  icases H with ⟨%hp, HSI⟩
  ihave H := (agree (m (cLoc d)) st) $$ [HSI Hc]
  · isplitl [HSI] <;> iassumption
  icases H with ⟨%hc, HSI⟩
  ihave H := (agree (ℓ := yLoc d) (answer m d) st) $$ [HSI Hy]
  · isplitl [HSI] <;> iassumption
  icases H with ⟨%hy, -⟩
  ipureintro; exact ⟨hs, hp, hc, hy⟩

/-! ## The run -/

/-- Every final state: the arguments as they were, the result the gathered rows, every semaphore at zero. -/
def QC : PUnit × MemSt nD τ sig (Elt F) → Prop := fun r =>
  (∀ c : Dev nD, r.2.mem (sLoc c) = m (sLoc c) ∧ r.2.mem (pLoc c) = m (pLoc c) ∧ r.2.mem (cLoc c) = m (cLoc c) ∧ r.2.mem (yLoc c) = answer m c)
    ∧ r.2.sem = fun _ => 0

/-- With every position below 32768, the program runs to such a state. -/
theorem run_main [∀ e, Nonempty (Elt F e)] (hpos : ∀ d y, (m (pLoc d) y : BitVec 32).toNat < 32768) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpos)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/- The value the two programs leave: the kernel's result and the reference's term are, element by element, the cache
   at the position that `position_ids` names. -/
module

public import proofs.«01_k».proof.Proof.Main
public import proofs.«01_k».proof.Proof.Gen.ReferenceIdeal.Run
public import proofs.«01_k».proof.Proof.Gen.Pre_positions_in_range
public import Idealize.ShloMosaic.Lib.ReduceAll

@[expose] public section

noncomputable section

namespace Cert.Proof.Gather

open Idealize.ShloMosaic

/-! ## The mathematics -/

section Rows
open Cert.KernelIdeal

variable {α : Type} (cache : S32768x64x2.Idx → α) (pos : S4x8192.Idx → BitVec 32)

/-- Place `(i, j)` of `position_ids` for element `(i, j, h, k)` of the result. -/
def placeOf (y : S4x8192x64x2.Idx) : S4x8192.Idx := fun | 0 => y 0 | 1 => y 1

/-- Element `(i, j, h, k)` of the result: the cache at `(position_ids[i, j], h, k)`. -/
def rowsAt : S4x8192x64x2.Idx → α := fun y =>
  cache (fun | 0 => ⟨(pos (placeOf y)).toNat % 32768, Nat.mod_lt _ (by decide)⟩ | 1 => y 2 | 2 => y 3)

/-- Row and column of the gathered array that element `y` of the result is. -/
def flat (y : S4x8192x64x2.Idx) : S32768x128.Idx := fun
  | 0 => ⟨8192 * (y 0).val + (y 1).val, by have h0 : (y 0).val < 4 := (y 0).isLt; have h1 : (y 1).val < 8192 := (y 1).isLt; show _ < 32768; omega⟩
  | 1 => ⟨2 * (y 2).val + (y 3).val, by have h2 : (y 2).val < 64 := (y 2).isLt; have h3 : (y 3).val < 2 := (y 3).isLt; show _ < 128; omega⟩

theorem flat_eq (h : S4x8192x64x2.numel = S32768x128.numel) (y : S4x8192x64x2.Idx) : Shape.reshapeEquiv h y = flat y := by
  refine Shape.reshapeEquiv_eq_of_rowMajor h ?_
  rw [Shape.rowMajor_val_two, Shape.rowMajor_val_four]
  show (8192 * (y 0).val + (y 1).val) * 128 + (2 * (y 2).val + (y 3).val) = (((y 0).val * 8192 + (y 1).val) * 64 + (y 2).val) * 2 + (y 3).val
  omega

theorem unflat_eq (h : S32768x128.numel = S32768x64x2.numel) (r : Fin 32768) (a : Fin 64) (b : Fin 2) (x : S32768x128.Idx)
    (h0 : (x 0).val = r.val) (h1 : (x 1).val = 2 * a.val + b.val) :
    Shape.reshapeEquiv h x = (fun | 0 => r | 1 => a | 2 => b : S32768x64x2.Idx) := by
  refine Shape.reshapeEquiv_eq_of_rowMajor h ?_
  rw [Shape.rowMajor_val_two, Shape.rowMajor_val_three]
  show (r.val * 64 + a.val) * 2 + b.val = (x 0).val * 128 + (x 1).val
  omega

/-- The place of `position_ids` that a row of the gathered array names. -/
theorem posAt_flat (y : S4x8192x64x2.Idx) : posAt (flat y 0).val = placeOf y := by
  have h0 : (y 0).val < 4 := (y 0).isLt
  have h1 : (y 1).val < 8192 := (y 1).isLt
  funext a
  refine Fin.ext ?_
  match a with
  | 0 => show (8192 * (y 0).val + (y 1).val) / 8192 % 4 = (y 0).val; omega
  | 1 => show (8192 * (y 0).val + (y 1).val) % 8192 = (y 1).val; omega

/-- The kernel's layouts cancel: laying the cache out flat, gathering rows and laying the result out again is taking
    the rows of the cache. -/
theorem gathered_rows :
    shapeCast S4x8192x64x2 (gathered (shapeCast S32768x128 cache Gen.shapeCasts_S32768x64x2_S32768x128) pos) Gen.shapeCasts_S32768x128_S4x8192x64x2
      = rowsAt cache pos := by
  funext y
  unfold shapeCast
  rw [flat_eq]
  unfold gathered rowsAt rowOf
  exact congrArg cache (unflat_eq _ _ (y 2) (y 3) _ (congrArg (fun p => (pos p).toNat % 32768) (posAt_flat y)) rfl)

end Rows

/-- What the kernel's program leaves is the rows of the cache. -/
theorem answer_eq {F : FTy → Type} (m : (ℓ : Loc Cert.KernelIdeal.nD Cert.KernelIdeal.τ Cert.KernelIdeal.sig) → Buf (Elt F) ℓ) (d : Dev Cert.KernelIdeal.nD) :
    answer m d = rowsAt (m (cLoc d) : Cert.KernelIdeal.S32768x64x2.Idx → Elt F .f32) (m (pLoc d) : Cert.KernelIdeal.S4x8192.Idx → BitVec 32) :=
  gathered_rows _ _

/-! ## The precondition -/

theorem andi_one {p q : Bool} (h : IntOp.andi (BitVec.ofBool p) (BitVec.ofBool q) = 1#1) : p = true ∧ q = true := by
  revert h; cases p <;> cases q <;> decide

/-- A word at least 0 and below 32768, as signed comparisons, is below 32768. -/
theorem word_lt (v : BitVec 32) (h : IntOp.andi (IntOp.cmpi .sge v 0#32) (IntOp.cmpi .slt v 32768#32) = 1#1) : v.toNat < 32768 := by
  obtain ⟨h1, h2⟩ := andi_one h
  simp only [BitVec.sle_eq_decide, BitVec.slt_eq_decide, decide_eq_true_eq, BitVec.toInt_eq_toNat_cond, BitVec.toNat_ofNat, Nat.reducePow, Nat.reduceMod] at h1 h2
  omega

/-- The precondition, read: every position is below 32768. -/
theorem pos_of_pre {F : FTy → Type} [FloatOps F] (a0 : IVec Cert.Pre_positions_in_range.S_ 32) (pos : IVec Cert.Pre_positions_in_range.S4x8192 32)
    (cache : FVec F Cert.Pre_positions_in_range.S32768x64x2 .f32) (h : Cert.Pre_positions_in_range.fn a0 pos cache = fun _ => 1#1) (y : Cert.Pre_positions_in_range.S4x8192.Idx) :
    (pos y).toNat < 32768 :=
  word_lt (pos y) (congrFun h y)

/-! ## The reference -/

section Reference
open Cert.ReferenceIdeal Cert.ReferenceIdeal.Gen

variable (pos : IVec S4x8192 32)

/-- The reference's positions: a negative one counts from the end, as array indexing has it. -/
abbrev wrapped : IVec S4x8192x1 32 :=
  broadcastInDim S4x8192x1 ![0, 1] bcast_S4x8192_S4x8192x1_0_1 (select (cmpi .slt pos (broadcastInDim S4x8192 ![] bcast_S_S4x8192 (constantI S_ 32 0#32)))
    (addi pos (broadcastInDim S4x8192 ![] bcast_S_S4x8192 (constantI S_ 32 32768#32))) pos)

/-- A word below 32768 isn't negative, and no smaller than 0 nor larger than 32767. -/
theorem not_neg (v : BitVec 32) (h : v.toNat < 32768) : Scalar.select (IntOp.cmpi .slt v 0#32) (IntOp.addi v 32768#32) v = v := by
  have e : BitVec.slt v 0#32 = false := by
    simp only [BitVec.slt_eq_decide, decide_eq_false_iff_not, BitVec.toInt_eq_toNat_cond, BitVec.toNat_ofNat, Nat.reducePow, Nat.reduceMod]
    omega
  simp [Scalar.select, IntOp.cmpi, e]
theorem between (v : BitVec 32) (h : v.toNat < 32768) : IntOp.andi (IntOp.cmpi .sge v 0#32) (IntOp.cmpi .sle v 32767#32) = 1#1 := by
  have e1 : BitVec.sle 0#32 v = true := by
    simp only [BitVec.sle_eq_decide, decide_eq_true_eq, BitVec.toInt_eq_toNat_cond, BitVec.toNat_ofNat, Nat.reducePow, Nat.reduceMod]
    omega
  have e2 : BitVec.sle v 32767#32 = true := by
    simp only [BitVec.sle_eq_decide, decide_eq_true_eq, BitVec.toInt_eq_toNat_cond, BitVec.toNat_ofNat, Nat.reducePow, Nat.reduceMod]
    omega
  simp only [IntOp.cmpi, e1, e2]; decide

variable (hpos : ∀ y, (pos y).toNat < 32768)
include hpos

/-- In range, the reference's position at a place is the word there. -/
theorem wrapped_eq (x : S4x8192x1.Idx) (p : S4x8192.Idx) (h0 : (x 0).val = (p 0).val) (h1 : (x 1).val = (p 1).val) : wrapped pos x = pos p := by
  have e : wrapped pos x = Scalar.select (IntOp.cmpi .slt (pos _) 0#32) (IntOp.addi (pos _) 32768#32) (pos _) := rfl
  rw [e, not_neg _ (hpos _)]
  refine congrArg pos (funext fun a => Fin.ext ?_)
  match a with
  | 0 => exact h0
  | 1 => exact h1

/-- In range, no place is masked out. -/
theorem mask_eq (x : S4x8192x1.Idx) :
    andi (cmpi .sge (wrapped pos) (broadcastInDim S4x8192x1 ![] bcast_S_S4x8192x1 (constantI S_ 32 0#32)))
      (cmpi .sle (wrapped pos) (broadcastInDim S4x8192x1 ![0, 1, 2] bcast_S1x1x1_S4x8192x1_0_1_2 (broadcastInDim S1x1x1 ![2] bcast_S1_S1x1x1_2 (constantI S1 32 32767#32)))) x = 1#1 := by
  have e := wrapped_eq pos hpos x (fun | 0 => x 0 | 1 => x 1) rfl rfl
  show IntOp.andi (IntOp.cmpi .sge (wrapped pos x) 0#32) (IntOp.cmpi .sle (wrapped pos x) 32767#32) = 1#1
  rw [e]
  exact between _ (hpos _)

/-- In range, the reference's gather takes the rows of the cache. -/
theorem gather_eq {α : Type} (cache : S32768x64x2.Idx → α) :
    Host.gather gather_S32768x64x2_S4x8192x1_S4x8192x64x2_23_0_n_n_0_2_1642 cache (wrapped pos) = rowsAt cache pos := by
  funext y
  unfold Host.gather rowsAt
  refine congrArg cache (funext fun a => Fin.ext ?_)
  show GatherDims.start gather_S32768x64x2_S4x8192x1_S4x8192x64x2_23_0_n_n_0_2_1642 y (wrapped pos) a
    + GatherDims.batchCoord gather_S32768x64x2_S4x8192x1_S4x8192x64x2_23_0_n_n_0_2_1642 y a
    + GatherDims.offCoord gather_S32768x64x2_S4x8192x1_S4x8192x64x2_23_0_n_n_0_2_1642 y a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ gather_S32768x64x2_S4x8192x1_S4x8192x64x2_23_0_n_n_0_2_1642.startIndexMap from List.mem_singleton.mpr rfl), wrapped_eq pos hpos _ (placeOf y) rfl rfl]
    have h := hpos (placeOf y)
    have e : (pos (placeOf y)).toInt = (pos (placeOf y)).toNat := by
      rw [BitVec.toInt_eq_toNat_cond]; split <;> omega
    rw [e]
    show min (pos (placeOf y)).toNat (32768 - 1) = (pos (placeOf y)).toNat % 32768
    omega
  | 1 => exact Nat.zero_add _
  | 2 => exact Nat.zero_add _

omit hpos in
/-- Choosing with a condition that holds everywhere. -/
theorem select_ones {s : Shape} {α : Type} (c : IVec s 1) (a b : s.Idx → α) (h : ∀ j, c j = 1#1) : select c a b = a :=
  funext fun j => if_pos (h j)

/-- In range, the reference's whole term is the rows of the cache. -/
theorem reference_eq {F : FTy → Type} [FloatOps F] (cache : FVec F S32768x64x2 .f32) :
    select (broadcastInDim S4x8192x64x2 ![0, 1] bcast_S4x8192_S4x8192x64x2_0_1
        (Host.reduce IntOp.andi (andi (cmpi .sge (wrapped pos) (broadcastInDim S4x8192x1 ![] bcast_S_S4x8192x1 (constantI S_ 32 0#32)))
          (cmpi .sle (wrapped pos) (broadcastInDim S4x8192x1 ![0, 1, 2] bcast_S1x1x1_S4x8192x1_0_1_2 (broadcastInDim S1x1x1 ![2] bcast_S1_S1x1x1_2 (constantI S1 32 32767#32)))))
          (constantI S_ 1 1#1) reducesTo_S4x8192x1_S4x8192_d2 h_S_))
      (Host.gather gather_S32768x64x2_S4x8192x1_S4x8192x64x2_23_0_n_n_0_2_1642 cache (wrapped pos))
      (broadcastInDim S4x8192x64x2 ![] bcast_S_S4x8192x64x2 (constant S_ .f32 0x7FC00000#32))
      = rowsAt cache pos := by
  rw [gather_eq pos hpos]
  exact select_ones _ _ _ fun j => Host.reduce_andi_one _ (constantI S_ 1 1#1) reducesTo_S4x8192x1_S4x8192_d2 h_S_ _ rfl (mask_eq pos hpos)

end Reference

end Cert.Proof.Gather

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_positions_in_range
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem Cert.Kernel

/-- From inputs in range, every execution of the device's program ends with its arguments as they were. -/
theorem kernel_frame : Cert.quiescent_Kernel := fun m ρ h =>
  (θ_run Cert.Kernel.defs _ _).mono (fun _ h => ⟨fun c => ⟨(h.1 c).1, (h.1 c).2.1, (h.1 c).2.2.1⟩, h.2⟩)
    (Gather.run_main (F := Bits) m ρ fun d y => Gather.pos_of_pre _ _ _ (h d) y)

/-- The same of the program over the reals. -/
theorem ideal_frame : Cert.quiescent_KernelIdeal := fun m ρ h =>
  (θ_run Cert.KernelIdeal.defs _ _).mono (fun _ h => ⟨fun c => ⟨(h.1 c).1, (h.1 c).2.1, (h.1 c).2.2.1⟩, h.2⟩)
    (Gather.run_main (F := Ideal) m ρ fun d y => Gather.pos_of_pre _ _ _ (h d) y)

/-- The reference's executions end, with its arguments as they were and no counter raised. -/
theorem reference_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- From the same inputs in range, the program over the reals and the reference end with the same result: the rows of
    the cache that `position_ids` names. -/
theorem same_value : Cert.algebraic_KernelIdeal_ReferenceIdeal := by
  intro m ρ m' ρ' h heq
  have hpos : ∀ d y, (m (Gather.pLoc d) y : BitVec 32).toNat < 32768 := fun d y => Gather.pos_of_pre _ _ _ (h d) y
  refine ⟨fun c => Gather.rowsAt (m (Gather.cLoc c)) (m (Gather.pLoc c)), ?_, ?_⟩
  · exact (θ_run Cert.KernelIdeal.defs _ _).mono
      (fun _ h c => ⟨(h.1 c).2.2.2.trans (Gather.answer_eq m c), (h.1 c).1, (h.1 c).2.1, (h.1 c).2.2.1⟩)
      (Gather.run_main (F := Ideal) m ρ hpos)
  · refine (θ_run Cert.ReferenceIdeal.defs _ _).mono (fun r h c => ⟨(h c).1.trans ?_, (h c).2⟩) (Cert.ReferenceIdeal.Value.run (F := Ideal) m' ρ')
    rw [(heq c).2.1, (heq c).2.2]
    exact Gather.reference_eq (F := Ideal) _ (hpos c) _

/-- Everything claimed. -/
theorem claim : Cert.Claim := ⟨Cert.Kernel.Gen.facts, Cert.KernelIdeal.Gen.facts, Cert.ReferenceIdeal.Gen.facts, Cert.Pre_positions_in_range.Gen.facts,
  kernel_frame, ideal_frame, reference_frame, fun m ρ _ => reference_frame m ρ trivial, trivial, same_value⟩

end Cert.Proof

end
